-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg" .bf16 0xFF62#16 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256x16 : Shape := ⟨3, ![512, 256, 16]⟩
abbrev S256x256 : Shape := ⟨2, ![256, 256]⟩
abbrev S256 : Shape := ⟨1, ![256]⟩
abbrev S512x16x256 : Shape := ⟨3, ![512, 16, 256]⟩
abbrev S1x256 : Shape := ⟨2, ![1, 256]⟩
abbrev S512x256x256 : Shape := ⟨3, ![512, 256, 256]⟩
abbrev S512x16x16x256 : Shape := ⟨4, ![512, 16, 16, 256]⟩
abbrev S512x256x16x16 : Shape := ⟨4, ![512, 256, 16, 16]⟩
abbrev S32x16x256 : Shape := ⟨3, ![32, 16, 256]⟩
abbrev S32x256x256 : Shape := ⟨3, ![32, 256, 256]⟩
abbrev S32x16x1x256 : Shape := ⟨4, ![32, 16, 1, 256]⟩
abbrev S32x16x16x256 : Shape := ⟨4, ![32, 16, 16, 256]⟩
abbrev S1x256x1 : Shape := ⟨3, ![1, 256, 1]⟩
abbrev S1x256x256 : Shape := ⟨3, ![1, 256, 256]⟩

abbrev nBuf : Space → Nat
  | .hbm => 8
  | .vmem => 6
  | .smem => 0
  | _ => 0

abbrev bufTy : (tb : Table) → Fin (tcTables nBuf tb) → BufTy
  | .hbm, ⟨0, _⟩ => ⟨S512x256x16, .f32⟩
  | .hbm, ⟨1, _⟩ => ⟨S256x256, .f32⟩
  | .hbm, ⟨2, _⟩ => ⟨S256, .f32⟩
  | .hbm, ⟨3, _⟩ => ⟨S512x16x256, .f32⟩
  | .hbm, ⟨4, _⟩ => ⟨S1x256, .f32⟩
  | .hbm, ⟨5, _⟩ => ⟨S512x256x256, .f32⟩
  | .hbm, ⟨6, _⟩ => ⟨S512x16x16x256, .f32⟩
  | .hbm, ⟨7, _⟩ => ⟨S512x256x16x16, .f32⟩
  | .local _ .vmem, ⟨0, _⟩ => ⟨S32x16x256, .f32⟩
  | .local _ .vmem, ⟨1, _⟩ => ⟨S32x16x256, .f32⟩
  | .local _ .vmem, ⟨2, _⟩ => ⟨S256x256, .f32⟩
  | .local _ .vmem, ⟨3, _⟩ => ⟨S1x256, .f32⟩
  | .local _ .vmem, ⟨4, _⟩ => ⟨S32x256x256, .f32⟩
  | .local _ .vmem, ⟨5, _⟩ => ⟨S32x256x256, .f32⟩
  | _, _ => ⟨S512x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S512x256x16 : Shape := ⟨3, ![512, 256, 16]⟩
abbrev S256x256 : Shape := ⟨2, ![256, 256]⟩
abbrev S256 : Shape := ⟨1, ![256]⟩
abbrev S_ : Shape := ⟨0, ![]⟩
abbrev S512x256x16x16 : Shape := ⟨4, ![512, 256, 16, 16]⟩
abbrev S16 : Shape := ⟨1, ![16]⟩
abbrev S16x1 : Shape := ⟨2, ![16, 1]⟩
abbrev S16x2 : Shape := ⟨2, ![16, 2]⟩
abbrev S512x256x15 : Shape := ⟨3, ![512, 256, 15]⟩
abbrev S15 : Shape := ⟨1, ![15]⟩
abbrev S15x1 : Shape := ⟨2, ![15, 1]⟩
abbrev S15x2 : Shape := ⟨2, ![15, 2]⟩
abbrev S512x256x14 : Shape := ⟨3, ![512, 256, 14]⟩
abbrev S14 : Shape := ⟨1, ![14]⟩
abbrev S14x1 : Shape := ⟨2, ![14, 1]⟩
abbrev S14x2 : Shape := ⟨2, ![14, 2]⟩
abbrev S512x256x13 : Shape := ⟨3, ![512, 256, 13]⟩
abbrev S13 : Shape := ⟨1, ![13]⟩
abbrev S13x1 : Shape := ⟨2, ![13, 1]⟩
abbrev S13x2 : Shape := ⟨2, ![13, 2]⟩
abbrev S512x256x12 : Shape := ⟨3, ![512, 256, 12]⟩
abbrev S12 : Shape := ⟨1, ![12]⟩
abbrev S12x1 : Shape := ⟨2, ![12, 1]⟩
abbrev S12x2 : Shape := ⟨2, ![12, 2]⟩
abbrev S512x256x11 : Shape := ⟨3, ![512, 256, 11]⟩
abbrev S11 : Shape := ⟨1, ![11]⟩
abbrev S11x1 : Shape := ⟨2, ![11, 1]⟩
abbrev S11x2 : Shape := ⟨2, ![11, 2]⟩
abbrev S512x256x10 : Shape := ⟨3, ![512, 256, 10]⟩
abbrev S10 : Shape := ⟨1, ![10]⟩
abbrev S10x1 : Shape := ⟨2, ![10, 1]⟩
abbrev S10x2 : Shape := ⟨2, ![10, 2]⟩
abbrev S512x256x9 : Shape := ⟨3, ![512, 256, 9]⟩
abbrev S9 : Shape := ⟨1, ![9]⟩
abbrev S9x1 : Shape := ⟨2, ![9, 1]⟩
abbrev S9x2 : Shape := ⟨2, ![9, 2]⟩
abbrev S512x256x8 : Shape := ⟨3, ![512, 256, 8]⟩
abbrev S8 : Shape := ⟨1, ![8]⟩
abbrev S8x1 : Shape := ⟨2, ![8, 1]⟩
abbrev S8x2 : Shape := ⟨2, ![8, 2]⟩
abbrev S512x256x7 : Shape := ⟨3, ![512, 256, 7]⟩
abbrev S7 : Shape := ⟨1, ![7]⟩
abbrev S7x1 : Shape := ⟨2, ![7, 1]⟩
abbrev S7x2 : Shape := ⟨2, ![7, 2]⟩
abbrev S512x256x6 : Shape := ⟨3, ![512, 256, 6]⟩
abbrev S6 : Shape := ⟨1, ![6]⟩
abbrev S6x1 : Shape := ⟨2, ![6, 1]⟩
abbrev S6x2 : Shape := ⟨2, ![6, 2]⟩
abbrev S512x256x5 : Shape := ⟨3, ![512, 256, 5]⟩
abbrev S5 : Shape := ⟨1, ![5]⟩
abbrev S5x1 : Shape := ⟨2, ![5, 1]⟩
abbrev S5x2 : Shape := ⟨2, ![5, 2]⟩
abbrev S512x256x4 : Shape := ⟨3, ![512, 256, 4]⟩
abbrev S4 : Shape := ⟨1, ![4]⟩
abbrev S4x1 : Shape := ⟨2, ![4, 1]⟩
abbrev S4x2 : Shape := ⟨2, ![4, 2]⟩
abbrev S512x256x3 : Shape := ⟨3, ![512, 256, 3]⟩
abbrev S3 : Shape := ⟨1, ![3]⟩
abbrev S3x1 : Shape := ⟨2, ![3, 1]⟩
abbrev S3x2 : Shape := ⟨2, ![3, 2]⟩
abbrev S512x256x2 : Shape := ⟨3, ![512, 256, 2]⟩
abbrev S2 : Shape := ⟨1, ![2]⟩
abbrev S2x1 : Shape := ⟨2, ![2, 1]⟩
abbrev S2x2 : Shape := ⟨2, ![2, 2]⟩
abbrev S512x256x1 : Shape := ⟨3, ![512, 256, 1]⟩
abbrev S1 : Shape := ⟨1, ![1]⟩
abbrev S1x1 : Shape := ⟨2, ![1, 1]⟩
abbrev S1x2 : Shape := ⟨2, ![1, 2]⟩
abbrev S256x512x16x16 : Shape := ⟨4, ![256, 512, 16, 16]⟩
abbrev S1x256x1x1 : Shape := ⟨4, ![1, 256, 1, 1]⟩

abbrev nBuf : Space → Nat
  | .hbm => 419
  | .vmem => 0
  | .smem => 0
  | _ => 0

abbrev hbmTy0_0 (i : Nat) : BufTy := match i % 128 with
  | 0 => ⟨S512x256x16, .f32⟩
  | 1 => ⟨S256x256, .f32⟩
  | 2 => ⟨S256, .f32⟩
  | 3 => ⟨S_, .f32⟩
  | 4 => ⟨S512x256x16x16, .f32⟩
  | 5 => ⟨S16, .i32⟩
  | 6 => ⟨S_, .i32⟩
  | 7 => ⟨S16, .i32⟩
  | 8 => ⟨S16, .i1⟩
  | 9 => ⟨S_, .i32⟩
  | 10 => ⟨S16, .i32⟩
  | 11 => ⟨S16, .i32⟩
  | 12 => ⟨S16, .i32⟩
  | 13 => ⟨S_, .i32⟩
  | 14 => ⟨S16, .i32⟩
  | 15 => ⟨S16, .i1⟩
  | 16 => ⟨S_, .i32⟩
  | 17 => ⟨S16, .i32⟩
  | 18 => ⟨S16, .i32⟩
  | 19 => ⟨S16, .i32⟩
  | 20 => ⟨S16x1, .i32⟩
  | 21 => ⟨S16x1, .i32⟩
  | 22 => ⟨S16x2, .i32⟩
  | 23 => ⟨S512x256x16x16, .f32⟩
  | 24 => ⟨S512x256x15, .f32⟩
  | 25 => ⟨S512x256x15, .f32⟩
  | 26 => ⟨S512x256x15, .f32⟩
  | 27 => ⟨S15, .i32⟩
  | 28 => ⟨S15, .i32⟩
  | 29 => ⟨S_, .i32⟩
  | 30 => ⟨S15, .i32⟩
  | 31 => ⟨S15, .i32⟩
  | 32 => ⟨S_, .i32⟩
  | 33 => ⟨S15, .i32⟩
  | 34 => ⟨S15, .i1⟩
  | 35 => ⟨S_, .i32⟩
  | 36 => ⟨S15, .i32⟩
  | 37 => ⟨S15, .i32⟩
  | 38 => ⟨S15, .i32⟩
  | 39 => ⟨S_, .i32⟩
  | 40 => ⟨S15, .i32⟩
  | 41 => ⟨S15, .i1⟩
  | 42 => ⟨S_, .i32⟩
  | 43 => ⟨S15, .i32⟩
  | 44 => ⟨S15, .i32⟩
  | 45 => ⟨S15, .i32⟩
  | 46 => ⟨S15x1, .i32⟩
  | 47 => ⟨S15x1, .i32⟩
  | 48 => ⟨S15x2, .i32⟩
  | 49 => ⟨S512x256x16x16, .f32⟩
  | 50 => ⟨S512x256x14, .f32⟩
  | 51 => ⟨S512x256x14, .f32⟩
  | 52 => ⟨S512x256x14, .f32⟩
  | 53 => ⟨S14, .i32⟩
  | 54 => ⟨S14, .i32⟩
  | 55 => ⟨S_, .i32⟩
  | 56 => ⟨S14, .i32⟩
  | 57 => ⟨S14, .i32⟩
  | 58 => ⟨S_, .i32⟩
  | 59 => ⟨S14, .i32⟩
  | 60 => ⟨S14, .i1⟩
  | 61 => ⟨S_, .i32⟩
  | 62 => ⟨S14, .i32⟩
  | 63 => ⟨S14, .i32⟩
  | 64 => ⟨S14, .i32⟩
  | 65 => ⟨S_, .i32⟩
  | 66 => ⟨S14, .i32⟩
  | 67 => ⟨S14, .i1⟩
  | 68 => ⟨S_, .i32⟩
  | 69 => ⟨S14, .i32⟩
  | 70 => ⟨S14, .i32⟩
  | 71 => ⟨S14, .i32⟩
  | 72 => ⟨S14x1, .i32⟩
  | 73 => ⟨S14x1, .i32⟩
  | 74 => ⟨S14x2, .i32⟩
  | 75 => ⟨S512x256x16x16, .f32⟩
  | 76 => ⟨S512x256x13, .f32⟩
  | 77 => ⟨S512x256x13, .f32⟩
  | 78 => ⟨S512x256x13, .f32⟩
  | 79 => ⟨S13, .i32⟩
  | 80 => ⟨S13, .i32⟩
  | 81 => ⟨S_, .i32⟩
  | 82 => ⟨S13, .i32⟩
  | 83 => ⟨S13, .i32⟩
  | 84 => ⟨S_, .i32⟩
  | 85 => ⟨S13, .i32⟩
  | 86 => ⟨S13, .i1⟩
  | 87 => ⟨S_, .i32⟩
  | 88 => ⟨S13, .i32⟩
  | 89 => ⟨S13, .i32⟩
  | 90 => ⟨S13, .i32⟩
  | 91 => ⟨S_, .i32⟩
  | 92 => ⟨S13, .i32⟩
  | 93 => ⟨S13, .i1⟩
  | 94 => ⟨S_, .i32⟩
  | 95 => ⟨S13, .i32⟩
  | 96 => ⟨S13, .i32⟩
  | 97 => ⟨S13, .i32⟩
  | 98 => ⟨S13x1, .i32⟩
  | 99 => ⟨S13x1, .i32⟩
  | 100 => ⟨S13x2, .i32⟩
  | 101 => ⟨S512x256x16x16, .f32⟩
  | 102 => ⟨S512x256x12, .f32⟩
  | 103 => ⟨S512x256x12, .f32⟩
  | 104 => ⟨S512x256x12, .f32⟩
  | 105 => ⟨S12, .i32⟩
  | 106 => ⟨S12, .i32⟩
  | 107 => ⟨S_, .i32⟩
  | 108 => ⟨S12, .i32⟩
  | 109 => ⟨S12, .i32⟩
  | 110 => ⟨S_, .i32⟩
  | 111 => ⟨S12, .i32⟩
  | 112 => ⟨S12, .i1⟩
  | 113 => ⟨S_, .i32⟩
  | 114 => ⟨S12, .i32⟩
  | 115 => ⟨S12, .i32⟩
  | 116 => ⟨S12, .i32⟩
  | 117 => ⟨S_, .i32⟩
  | 118 => ⟨S12, .i32⟩
  | 119 => ⟨S12, .i1⟩
  | 120 => ⟨S_, .i32⟩
  | 121 => ⟨S12, .i32⟩
  | 122 => ⟨S12, .i32⟩
  | 123 => ⟨S12, .i32⟩
  | 124 => ⟨S12x1, .i32⟩
  | 125 => ⟨S12x1, .i32⟩
  | 126 => ⟨S12x2, .i32⟩
  | 127 => ⟨S512x256x16x16, .f32⟩
  | _ => ⟨S512x256x16, .f32⟩

abbrev hbmTy0_1 (i : Nat) : BufTy := match i % 128 with
  | 0 => ⟨S512x256x11, .f32⟩
  | 1 => ⟨S512x256x11, .f32⟩
  | 2 => ⟨S512x256x11, .f32⟩
  | 3 => ⟨S11, .i32⟩
  | 4 => ⟨S11, .i32⟩
  | 5 => ⟨S_, .i32⟩
  | 6 => ⟨S11, .i32⟩
  | 7 => ⟨S11, .i32⟩
  | 8 => ⟨S_, .i32⟩
  | 9 => ⟨S11, .i32⟩
  | 10 => ⟨S11, .i1⟩
  | 11 => ⟨S_, .i32⟩
  | 12 => ⟨S11, .i32⟩
  | 13 => ⟨S11, .i32⟩
  | 14 => ⟨S11, .i32⟩
  | 15 => ⟨S_, .i32⟩
  | 16 => ⟨S11, .i32⟩
  | 17 => ⟨S11, .i1⟩
  | 18 => ⟨S_, .i32⟩
  | 19 => ⟨S11, .i32⟩
  | 20 => ⟨S11, .i32⟩
  | 21 => ⟨S11, .i32⟩
  | 22 => ⟨S11x1, .i32⟩
  | 23 => ⟨S11x1, .i32⟩
  | 24 => ⟨S11x2, .i32⟩
  | 25 => ⟨S512x256x16x16, .f32⟩
  | 26 => ⟨S512x256x10, .f32⟩
  | 27 => ⟨S512x256x10, .f32⟩
  | 28 => ⟨S512x256x10, .f32⟩
  | 29 => ⟨S10, .i32⟩
  | 30 => ⟨S10, .i32⟩
  | 31 => ⟨S_, .i32⟩
  | 32 => ⟨S10, .i32⟩
  | 33 => ⟨S10, .i32⟩
  | 34 => ⟨S_, .i32⟩
  | 35 => ⟨S10, .i32⟩
  | 36 => ⟨S10, .i1⟩
  | 37 => ⟨S_, .i32⟩
  | 38 => ⟨S10, .i32⟩
  | 39 => ⟨S10, .i32⟩
  | 40 => ⟨S10, .i32⟩
  | 41 => ⟨S_, .i32⟩
  | 42 => ⟨S10, .i32⟩
  | 43 => ⟨S10, .i1⟩
  | 44 => ⟨S_, .i32⟩
  | 45 => ⟨S10, .i32⟩
  | 46 => ⟨S10, .i32⟩
  | 47 => ⟨S10, .i32⟩
  | 48 => ⟨S10x1, .i32⟩
  | 49 => ⟨S10x1, .i32⟩
  | 50 => ⟨S10x2, .i32⟩
  | 51 => ⟨S512x256x16x16, .f32⟩
  | 52 => ⟨S512x256x9, .f32⟩
  | 53 => ⟨S512x256x9, .f32⟩
  | 54 => ⟨S512x256x9, .f32⟩
  | 55 => ⟨S9, .i32⟩
  | 56 => ⟨S9, .i32⟩
  | 57 => ⟨S_, .i32⟩
  | 58 => ⟨S9, .i32⟩
  | 59 => ⟨S9, .i32⟩
  | 60 => ⟨S_, .i32⟩
  | 61 => ⟨S9, .i32⟩
  | 62 => ⟨S9, .i1⟩
  | 63 => ⟨S_, .i32⟩
  | 64 => ⟨S9, .i32⟩
  | 65 => ⟨S9, .i32⟩
  | 66 => ⟨S9, .i32⟩
  | 67 => ⟨S_, .i32⟩
  | 68 => ⟨S9, .i32⟩
  | 69 => ⟨S9, .i1⟩
  | 70 => ⟨S_, .i32⟩
  | 71 => ⟨S9, .i32⟩
  | 72 => ⟨S9, .i32⟩
  | 73 => ⟨S9, .i32⟩
  | 74 => ⟨S9x1, .i32⟩
  | 75 => ⟨S9x1, .i32⟩
  | 76 => ⟨S9x2, .i32⟩
  | 77 => ⟨S512x256x16x16, .f32⟩
  | 78 => ⟨S512x256x8, .f32⟩
  | 79 => ⟨S512x256x8, .f32⟩
  | 80 => ⟨S512x256x8, .f32⟩
  | 81 => ⟨S8, .i32⟩
  | 82 => ⟨S8, .i32⟩
  | 83 => ⟨S_, .i32⟩
  | 84 => ⟨S8, .i32⟩
  | 85 => ⟨S8, .i32⟩
  | 86 => ⟨S_, .i32⟩
  | 87 => ⟨S8, .i32⟩
  | 88 => ⟨S8, .i1⟩
  | 89 => ⟨S_, .i32⟩
  | 90 => ⟨S8, .i32⟩
  | 91 => ⟨S8, .i32⟩
  | 92 => ⟨S8, .i32⟩
  | 93 => ⟨S_, .i32⟩
  | 94 => ⟨S8, .i32⟩
  | 95 => ⟨S8, .i1⟩
  | 96 => ⟨S_, .i32⟩
  | 97 => ⟨S8, .i32⟩
  | 98 => ⟨S8, .i32⟩
  | 99 => ⟨S8, .i32⟩
  | 100 => ⟨S8x1, .i32⟩
  | 101 => ⟨S8x1, .i32⟩
  | 102 => ⟨S8x2, .i32⟩
  | 103 => ⟨S512x256x16x16, .f32⟩
  | 104 => ⟨S512x256x7, .f32⟩
  | 105 => ⟨S512x256x7, .f32⟩
  | 106 => ⟨S512x256x7, .f32⟩
  | 107 => ⟨S7, .i32⟩
  | 108 => ⟨S7, .i32⟩
  | 109 => ⟨S_, .i32⟩
  | 110 => ⟨S7, .i32⟩
  | 111 => ⟨S7, .i32⟩
  | 112 => ⟨S_, .i32⟩
  | 113 => ⟨S7, .i32⟩
  | 114 => ⟨S7, .i1⟩
  | 115 => ⟨S_, .i32⟩
  | 116 => ⟨S7, .i32⟩
  | 117 => ⟨S7, .i32⟩
  | 118 => ⟨S7, .i32⟩
  | 119 => ⟨S_, .i32⟩
  | 120 => ⟨S7, .i32⟩
  | 121 => ⟨S7, .i1⟩
  | 122 => ⟨S_, .i32⟩
  | 123 => ⟨S7, .i32⟩
  | 124 => ⟨S7, .i32⟩
  | 125 => ⟨S7, .i32⟩
  | 126 => ⟨S7x1, .i32⟩
  | 127 => ⟨S7x1, .i32⟩
  | _ => ⟨S512x256x16, .f32⟩

abbrev hbmTy0_2 (i : Nat) : BufTy := match i % 128 with
  | 0 => ⟨S7x2, .i32⟩
  | 1 => ⟨S512x256x16x16, .f32⟩
  | 2 => ⟨S512x256x6, .f32⟩
  | 3 => ⟨S512x256x6, .f32⟩
  | 4 => ⟨S512x256x6, .f32⟩
  | 5 => ⟨S6, .i32⟩
  | 6 => ⟨S6, .i32⟩
  | 7 => ⟨S_, .i32⟩
  | 8 => ⟨S6, .i32⟩
  | 9 => ⟨S6, .i32⟩
  | 10 => ⟨S_, .i32⟩
  | 11 => ⟨S6, .i32⟩
  | 12 => ⟨S6, .i1⟩
  | 13 => ⟨S_, .i32⟩
  | 14 => ⟨S6, .i32⟩
  | 15 => ⟨S6, .i32⟩
  | 16 => ⟨S6, .i32⟩
  | 17 => ⟨S_, .i32⟩
  | 18 => ⟨S6, .i32⟩
  | 19 => ⟨S6, .i1⟩
  | 20 => ⟨S_, .i32⟩
  | 21 => ⟨S6, .i32⟩
  | 22 => ⟨S6, .i32⟩
  | 23 => ⟨S6, .i32⟩
  | 24 => ⟨S6x1, .i32⟩
  | 25 => ⟨S6x1, .i32⟩
  | 26 => ⟨S6x2, .i32⟩
  | 27 => ⟨S512x256x16x16, .f32⟩
  | 28 => ⟨S512x256x5, .f32⟩
  | 29 => ⟨S512x256x5, .f32⟩
  | 30 => ⟨S512x256x5, .f32⟩
  | 31 => ⟨S5, .i32⟩
  | 32 => ⟨S5, .i32⟩
  | 33 => ⟨S_, .i32⟩
  | 34 => ⟨S5, .i32⟩
  | 35 => ⟨S5, .i32⟩
  | 36 => ⟨S_, .i32⟩
  | 37 => ⟨S5, .i32⟩
  | 38 => ⟨S5, .i1⟩
  | 39 => ⟨S_, .i32⟩
  | 40 => ⟨S5, .i32⟩
  | 41 => ⟨S5, .i32⟩
  | 42 => ⟨S5, .i32⟩
  | 43 => ⟨S_, .i32⟩
  | 44 => ⟨S5, .i32⟩
  | 45 => ⟨S5, .i1⟩
  | 46 => ⟨S_, .i32⟩
  | 47 => ⟨S5, .i32⟩
  | 48 => ⟨S5, .i32⟩
  | 49 => ⟨S5, .i32⟩
  | 50 => ⟨S5x1, .i32⟩
  | 51 => ⟨S5x1, .i32⟩
  | 52 => ⟨S5x2, .i32⟩
  | 53 => ⟨S512x256x16x16, .f32⟩
  | 54 => ⟨S512x256x4, .f32⟩
  | 55 => ⟨S512x256x4, .f32⟩
  | 56 => ⟨S512x256x4, .f32⟩
  | 57 => ⟨S4, .i32⟩
  | 58 => ⟨S4, .i32⟩
  | 59 => ⟨S_, .i32⟩
  | 60 => ⟨S4, .i32⟩
  | 61 => ⟨S4, .i32⟩
  | 62 => ⟨S_, .i32⟩
  | 63 => ⟨S4, .i32⟩
  | 64 => ⟨S4, .i1⟩
  | 65 => ⟨S_, .i32⟩
  | 66 => ⟨S4, .i32⟩
  | 67 => ⟨S4, .i32⟩
  | 68 => ⟨S4, .i32⟩
  | 69 => ⟨S_, .i32⟩
  | 70 => ⟨S4, .i32⟩
  | 71 => ⟨S4, .i1⟩
  | 72 => ⟨S_, .i32⟩
  | 73 => ⟨S4, .i32⟩
  | 74 => ⟨S4, .i32⟩
  | 75 => ⟨S4, .i32⟩
  | 76 => ⟨S4x1, .i32⟩
  | 77 => ⟨S4x1, .i32⟩
  | 78 => ⟨S4x2, .i32⟩
  | 79 => ⟨S512x256x16x16, .f32⟩
  | 80 => ⟨S512x256x3, .f32⟩
  | 81 => ⟨S512x256x3, .f32⟩
  | 82 => ⟨S512x256x3, .f32⟩
  | 83 => ⟨S3, .i32⟩
  | 84 => ⟨S3, .i32⟩
  | 85 => ⟨S_, .i32⟩
  | 86 => ⟨S3, .i32⟩
  | 87 => ⟨S3, .i32⟩
  | 88 => ⟨S_, .i32⟩
  | 89 => ⟨S3, .i32⟩
  | 90 => ⟨S3, .i1⟩
  | 91 => ⟨S_, .i32⟩
  | 92 => ⟨S3, .i32⟩
  | 93 => ⟨S3, .i32⟩
  | 94 => ⟨S3, .i32⟩
  | 95 => ⟨S_, .i32⟩
  | 96 => ⟨S3, .i32⟩
  | 97 => ⟨S3, .i1⟩
  | 98 => ⟨S_, .i32⟩
  | 99 => ⟨S3, .i32⟩
  | 100 => ⟨S3, .i32⟩
  | 101 => ⟨S3, .i32⟩
  | 102 => ⟨S3x1, .i32⟩
  | 103 => ⟨S3x1, .i32⟩
  | 104 => ⟨S3x2, .i32⟩
  | 105 => ⟨S512x256x16x16, .f32⟩
  | 106 => ⟨S512x256x2, .f32⟩
  | 107 => ⟨S512x256x2, .f32⟩
  | 108 => ⟨S512x256x2, .f32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i1⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i1⟩
  | 124 => ⟨S_, .i32⟩
  | 125 => ⟨S2, .i32⟩
  | 126 => ⟨S2, .i32⟩
  | 127 => ⟨S2, .i32⟩
  | _ => ⟨S512x256x16, .f32⟩

abbrev hbmTy0_3 (i : Nat) : BufTy := match i % 128 with
  | 0 => ⟨S2x1, .i32⟩
  | 1 => ⟨S2x1, .i32⟩
  | 2 => ⟨S2x2, .i32⟩
  | 3 => ⟨S512x256x16x16, .f32⟩
  | 4 => ⟨S512x256x1, .f32⟩
  | 5 => ⟨S512x256x1, .f32⟩
  | 6 => ⟨S512x256x1, .f32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i1⟩
  | 15 => ⟨S_, .i32⟩
  | 16 => ⟨S1, .i32⟩
  | 17 => ⟨S1, .i32⟩
  | 18 => ⟨S1, .i32⟩
  | 19 => ⟨S_, .i32⟩
  | 20 => ⟨S1, .i32⟩
  | 21 => ⟨S1, .i1⟩
  | 22 => ⟨S_, .i32⟩
  | 23 => ⟨S1, .i32⟩
  | 24 => ⟨S1, .i32⟩
  | 25 => ⟨S1, .i32⟩
  | 26 => ⟨S1x1, .i32⟩
  | 27 => ⟨S1x1, .i32⟩
  | 28 => ⟨S1x2, .i32⟩
  | 29 => ⟨S512x256x16x16, .f32⟩
  | 30 => ⟨S256x512x16x16, .f32⟩
  | 31 => ⟨S512x256x16x16, .f32⟩
  | 32 => ⟨S1x256x1x1, .f32⟩
  | 33 => ⟨S512x256x16x16, .f32⟩
  | 34 => ⟨S512x256x16x16, .f32⟩
  | _ => ⟨S512x256x16, .f32⟩

abbrev hbmTy (i : Nat) : BufTy := match i / 128 with
  | 0 => hbmTy0_0 i
  | 1 => hbmTy0_1 i
  | 2 => hbmTy0_2 i
  | 3 => hbmTy0_3 i
  | _ => ⟨S512x256x16, .f32⟩

abbrev bufTy : (tb : Table) → Fin (tcTables nBuf tb) → BufTy
  | .hbm, ⟨i, _⟩ => hbmTy i
  | _, _ => ⟨S512x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_c_9 : Ref sig .tc := ⟨.hbm, 58, rfl⟩
abbrev main_v44 : Ref sig .tc := ⟨.hbm, 59, rfl⟩
abbrev main_v45 : Ref sig .tc := ⟨.hbm, 60, rfl⟩
abbrev main_c_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_11 : Ref sig .tc := ⟨.hbm, 65, rfl⟩
abbrev main_v49 : Ref sig .tc := ⟨.hbm, 66, rfl⟩
abbrev main_v50 : Ref sig .tc := ⟨.hbm, 67, rfl⟩
abbrev main_c_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_13 : Ref sig .tc := ⟨.hbm, 81, rfl⟩
abbrev main_v63 : Ref sig .tc := ⟨.hbm, 82, rfl⟩
abbrev main_v64 : Ref sig .tc := ⟨.hbm, 83, rfl⟩
abbrev main_c_14 : Ref sig .tc := ⟨.hbm, 84, rfl⟩
abbrev main_v65 : Ref sig .tc := ⟨.hbm, 85, rfl⟩
abbrev main_v66 : Ref sig .tc := ⟨.hbm, 86, rfl⟩
abbrev main_c_15 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_16 : Ref sig .tc := ⟨.hbm, 91, rfl⟩
abbrev main_v70 : Ref sig .tc := ⟨.hbm, 92, rfl⟩
abbrev main_v71 : Ref sig .tc := ⟨.hbm, 93, rfl⟩
abbrev main_c_17 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_18 : Ref sig .tc := ⟨.hbm, 107, rfl⟩
abbrev main_v84 : Ref sig .tc := ⟨.hbm, 108, rfl⟩
abbrev main_v85 : Ref sig .tc := ⟨.hbm, 109, rfl⟩
abbrev main_c_19 : Ref sig .tc := ⟨.hbm, 110, rfl⟩
abbrev main_v86 : Ref sig .tc := ⟨.hbm, 111, rfl⟩
abbrev main_v87 : Ref sig .tc := ⟨.hbm, 112, rfl⟩
abbrev main_c_20 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_21 : Ref sig .tc := ⟨.hbm, 117, rfl⟩
abbrev main_v91 : Ref sig .tc := ⟨.hbm, 118, rfl⟩
abbrev main_v92 : Ref sig .tc := ⟨.hbm, 119, rfl⟩
abbrev main_c_22 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_23 : Ref sig .tc := ⟨.hbm, 133, rfl⟩
abbrev main_v105 : Ref sig .tc := ⟨.hbm, 134, rfl⟩
abbrev main_v106 : Ref sig .tc := ⟨.hbm, 135, rfl⟩
abbrev main_c_24 : Ref sig .tc := ⟨.hbm, 136, rfl⟩
abbrev main_v107 : Ref sig .tc := ⟨.hbm, 137, rfl⟩
abbrev main_v108 : Ref sig .tc := ⟨.hbm, 138, rfl⟩
abbrev main_c_25 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_c_26 : Ref sig .tc := ⟨.hbm, 143, rfl⟩
abbrev main_v112 : Ref sig .tc := ⟨.hbm, 144, rfl⟩
abbrev main_v113 : Ref sig .tc := ⟨.hbm, 145, rfl⟩
abbrev main_c_27 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_c_28 : Ref sig .tc := ⟨.hbm, 159, rfl⟩
abbrev main_v126 : Ref sig .tc := ⟨.hbm, 160, rfl⟩
abbrev main_v127 : Ref sig .tc := ⟨.hbm, 161, rfl⟩
abbrev main_c_29 : Ref sig .tc := ⟨.hbm, 162, rfl⟩
abbrev main_v128 : Ref sig .tc := ⟨.hbm, 163, rfl⟩
abbrev main_v129 : Ref sig .tc := ⟨.hbm, 164, rfl⟩
abbrev main_c_30 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_c_31 : Ref sig .tc := ⟨.hbm, 169, rfl⟩
abbrev main_v133 : Ref sig .tc := ⟨.hbm, 170, rfl⟩
abbrev main_v134 : Ref sig .tc := ⟨.hbm, 171, rfl⟩
abbrev main_c_32 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_c_33 : Ref sig .tc := ⟨.hbm, 185, rfl⟩
abbrev main_v147 : Ref sig .tc := ⟨.hbm, 186, rfl⟩
abbrev main_v148 : Ref sig .tc := ⟨.hbm, 187, rfl⟩
abbrev main_c_34 : Ref sig .tc := ⟨.hbm, 188, rfl⟩
abbrev main_v149 : Ref sig .tc := ⟨.hbm, 189, rfl⟩
abbrev main_v150 : Ref sig .tc := ⟨.hbm, 190, rfl⟩
abbrev main_c_35 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_c_36 : Ref sig .tc := ⟨.hbm, 195, rfl⟩
abbrev main_v154 : Ref sig .tc := ⟨.hbm, 196, rfl⟩
abbrev main_v155 : Ref sig .tc := ⟨.hbm, 197, rfl⟩
abbrev main_c_37 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_c_38 : Ref sig .tc := ⟨.hbm, 211, rfl⟩
abbrev main_v168 : Ref sig .tc := ⟨.hbm, 212, rfl⟩
abbrev main_v169 : Ref sig .tc := ⟨.hbm, 213, rfl⟩
abbrev main_c_39 : Ref sig .tc := ⟨.hbm, 214, rfl⟩
abbrev main_v170 : Ref sig .tc := ⟨.hbm, 215, rfl⟩
abbrev main_v171 : Ref sig .tc := ⟨.hbm, 216, rfl⟩
abbrev main_c_40 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_c_41 : Ref sig .tc := ⟨.hbm, 221, rfl⟩
abbrev main_v175 : Ref sig .tc := ⟨.hbm, 222, rfl⟩
abbrev main_v176 : Ref sig .tc := ⟨.hbm, 223, rfl⟩
abbrev main_c_42 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_c_43 : Ref sig .tc := ⟨.hbm, 237, rfl⟩
abbrev main_v189 : Ref sig .tc := ⟨.hbm, 238, rfl⟩
abbrev main_v190 : Ref sig .tc := ⟨.hbm, 239, rfl⟩
abbrev main_c_44 : Ref sig .tc := ⟨.hbm, 240, rfl⟩
abbrev main_v191 : Ref sig .tc := ⟨.hbm, 241, rfl⟩
abbrev main_v192 : Ref sig .tc := ⟨.hbm, 242, rfl⟩
abbrev main_c_45 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_c_46 : Ref sig .tc := ⟨.hbm, 247, rfl⟩
abbrev main_v196 : Ref sig .tc := ⟨.hbm, 248, rfl⟩
abbrev main_v197 : Ref sig .tc := ⟨.hbm, 249, rfl⟩
abbrev main_c_47 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_c_48 : Ref sig .tc := ⟨.hbm, 263, rfl⟩
abbrev main_v210 : Ref sig .tc := ⟨.hbm, 264, rfl⟩
abbrev main_v211 : Ref sig .tc := ⟨.hbm, 265, rfl⟩
abbrev main_c_49 : Ref sig .tc := ⟨.hbm, 266, rfl⟩
abbrev main_v212 : Ref sig .tc := ⟨.hbm, 267, rfl⟩
abbrev main_v213 : Ref sig .tc := ⟨.hbm, 268, rfl⟩
abbrev main_c_50 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_c_51 : Ref sig .tc := ⟨.hbm, 273, rfl⟩
abbrev main_v217 : Ref sig .tc := ⟨.hbm, 274, rfl⟩
abbrev main_v218 : Ref sig .tc := ⟨.hbm, 275, rfl⟩
abbrev main_c_52 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_c_53 : Ref sig .tc := ⟨.hbm, 289, rfl⟩
abbrev main_v231 : Ref sig .tc := ⟨.hbm, 290, rfl⟩
abbrev main_v232 : Ref sig .tc := ⟨.hbm, 291, rfl⟩
abbrev main_c_54 : Ref sig .tc := ⟨.hbm, 292, rfl⟩
abbrev main_v233 : Ref sig .tc := ⟨.hbm, 293, rfl⟩
abbrev main_v234 : Ref sig .tc := ⟨.hbm, 294, rfl⟩
abbrev main_c_55 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_c_56 : Ref sig .tc := ⟨.hbm, 299, rfl⟩
abbrev main_v238 : Ref sig .tc := ⟨.hbm, 300, rfl⟩
abbrev main_v239 : Ref sig .tc := ⟨.hbm, 301, rfl⟩
abbrev main_c_57 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_c_58 : Ref sig .tc := ⟨.hbm, 315, rfl⟩
abbrev main_v252 : Ref sig .tc := ⟨.hbm, 316, rfl⟩
abbrev main_v253 : Ref sig .tc := ⟨.hbm, 317, rfl⟩
abbrev main_c_59 : Ref sig .tc := ⟨.hbm, 318, rfl⟩
abbrev main_v254 : Ref sig .tc := ⟨.hbm, 319, rfl⟩
abbrev main_v255 : Ref sig .tc := ⟨.hbm, 320, rfl⟩
abbrev main_c_60 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_c_61 : Ref sig .tc := ⟨.hbm, 325, rfl⟩
abbrev main_v259 : Ref sig .tc := ⟨.hbm, 326, rfl⟩
abbrev main_v260 : Ref sig .tc := ⟨.hbm, 327, rfl⟩
abbrev main_c_62 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_c_63 : Ref sig .tc := ⟨.hbm, 341, rfl⟩
abbrev main_v273 : Ref sig .tc := ⟨.hbm, 342, rfl⟩
abbrev main_v274 : Ref sig .tc := ⟨.hbm, 343, rfl⟩
abbrev main_c_64 : Ref sig .tc := ⟨.hbm, 344, rfl⟩
abbrev main_v275 : Ref sig .tc := ⟨.hbm, 345, rfl⟩
abbrev main_v276 : Ref sig .tc := ⟨.hbm, 346, rfl⟩
abbrev main_c_65 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_c_66 : Ref sig .tc := ⟨.hbm, 351, rfl⟩
abbrev main_v280 : Ref sig .tc := ⟨.hbm, 352, rfl⟩
abbrev main_v281 : Ref sig .tc := ⟨.hbm, 353, rfl⟩
abbrev main_c_67 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_v285 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_c_68 : Ref sig .tc := ⟨.hbm, 367, rfl⟩
abbrev main_v294 : Ref sig .tc := ⟨.hbm, 368, rfl⟩
abbrev main_v295 : Ref sig .tc := ⟨.hbm, 369, rfl⟩
abbrev main_c_69 : Ref sig .tc := ⟨.hbm, 370, rfl⟩
abbrev main_v296 : Ref sig .tc := ⟨.hbm, 371, rfl⟩
abbrev main_v297 : Ref sig .tc := ⟨.hbm, 372, rfl⟩
abbrev main_c_70 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_c_71 : Ref sig .tc := ⟨.hbm, 377, rfl⟩
abbrev main_v301 : Ref sig .tc := ⟨.hbm, 378, rfl⟩
abbrev main_v302 : Ref sig .tc := ⟨.hbm, 379, rfl⟩
abbrev main_c_72 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_c_73 : Ref sig .tc := ⟨.hbm, 393, rfl⟩
abbrev main_v315 : Ref sig .tc := ⟨.hbm, 394, rfl⟩
abbrev main_v316 : Ref sig .tc := ⟨.hbm, 395, rfl⟩
abbrev main_c_74 : Ref sig .tc := ⟨.hbm, 396, rfl⟩
abbrev main_v317 : Ref sig .tc := ⟨.hbm, 397, rfl⟩
abbrev main_v318 : Ref sig .tc := ⟨.hbm, 398, rfl⟩
abbrev main_c_75 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_c_76 : Ref sig .tc := ⟨.hbm, 403, rfl⟩
abbrev main_v322 : Ref sig .tc := ⟨.hbm, 404, rfl⟩
abbrev main_v323 : Ref sig .tc := ⟨.hbm, 405, rfl⟩
abbrev main_c_77 : Ref sig .tc := ⟨.hbm, 406, rfl⟩
abbrev main_v324 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_v331 : Ref sig .tc := ⟨.hbm, 414, rfl⟩
abbrev main_v332 : Ref sig .tc := ⟨.hbm, 415, rfl⟩
abbrev main_v333 : Ref sig .tc := ⟨.hbm, 416, rfl⟩
abbrev main_v334 : Ref sig .tc := ⟨.hbm, 417, rfl⟩
abbrev main_v335 : Ref sig .tc := ⟨.hbm, 418, rfl⟩

abbrev nD : Nat := 1
abbrev τ : Topo := Topo.v7x

variable {F : FTy → Type} [FloatOps F]
-- ==== Proof.WindowMax.lean ====
/- Maxima over windows of a row of extended reals: the two recursions that compute the window `f i, …, f (i + o)` — one extends the window on
   both ends at once, the other adds one element at its left end — give the same maximum. -/
module

public import Mathlib.Data.EReal.Basic

@[expose] public section

noncomputable section

namespace Cert.WindowMax

/-- The maximum of `f i, …, f (i + o)`, by the recursion that takes the maximum of two neighbouring windows one element shorter. -/
def wmax (f : ℕ → EReal) : ℕ → ℕ → EReal
  | i, 0 => f i
  | i, o + 1 => max (wmax f i o) (wmax f (i + 1) o)

/-- The window of one element. -/
theorem wmax_zero (f : ℕ → EReal) (i : ℕ) : wmax f i 0 = f i := rfl

/-- The recursion's step. -/
theorem wmax_succ (f : ℕ → EReal) (i o : ℕ) : wmax f i (o + 1) = max (wmax f i o) (wmax f (i + 1) o) := rfl

/-- A window's maximum is the maximum of its first element and of the rest. -/
theorem wmax_cons (f : ℕ → EReal) (i o : ℕ) : wmax f i (o + 1) = max (f i) (wmax f (i + 1) o) := by
  induction o generalizing i with
  | zero => rfl
  | succ o ih =>
    have h : wmax f (i + 1) o ≤ wmax f (i + 1) (o + 1) := le_max_left _ _
    rw [wmax_succ f i (o + 1), ih i, max_assoc, max_eq_right h]

/-- The maximum of `f i, …, f j`, and the least extended real when the window is empty. -/
def upto (f : ℕ → EReal) (i j : ℕ) : EReal := if i ≤ j then wmax f i (j - i) else ⊥

/-- One step down: with `f i` put in when `i ≤ j` and the least extended real otherwise, the window that starts at `i + 1` becomes the one
    that starts at `i`. -/
theorem upto_step (f : ℕ → EReal) (i j : ℕ) : max (if i ≤ j then f i else ⊥) (upto f (i + 1) j) = upto f i j := by
  unfold upto
  rcases Nat.lt_trichotomy i j with h | h | h
  · rw [if_pos h.le, if_pos (by omega : i + 1 ≤ j), if_pos h.le, show j - i = (j - (i + 1)) + 1 by omega, wmax_cons]
  · subst h
    rw [if_pos le_rfl, if_neg (by omega), if_pos le_rfl, Nat.sub_self, wmax_zero, max_eq_left bot_le]
  · rw [if_neg (by omega), if_neg (by omega), if_neg (by omega), max_eq_left le_rfl]

/-- Past the end nothing is left. -/
theorem upto_last (f : ℕ → EReal) (i j : ℕ) (h : j ≤ i) : upto f i j = if i ≤ j then f i else ⊥ := by
  unfold upto
  by_cases hij : i ≤ j
  · rw [if_pos hij, if_pos hij, show j - i = 0 by omega, wmax_zero]
  · rw [if_neg hij, if_neg hij]

/-- The table both programs build, at row `i` and column `j`: the window's maximum on and above the diagonal, zero below it. -/
def cell (f : ℕ → EReal) (i j : ℕ) : EReal := if i ≤ j then wmax f i (j - i) else 0

end Cert.WindowMax

end
-- ==== Proof.KernelTable.lean ====
/- What one block of the kernel builds before its products: the table of window maxima, read at an index. -/
module

public import proofs.«01_k».proof.Proof.Gen.KernelIdeal.Skeleton
public import proofs.«01_k».proof.Proof.WindowMax
public import Idealize.ShloMosaic.Lib.Pipeline.ValueKit
public import Idealize.ShloMosaic.Lib.Pointwise

@[expose] public section

set_option maxRecDepth 16384

noncomputable section

namespace Cert.KernelTable

open Idealize.ShloMosaic Idealize.ShloMosaic.TcCoe Idealize.SL.Sem Cert.KernelIdeal Cert.KernelIdeal.Gen Cert.WindowMax

/-- The mask holds at position `p` when its row `p / 16` is at most its column `p % 16`. -/
theorem mask_apply : ∀ p : Fin 256, k0_pay4 (ix3 (0 : Fin 1) p (0 : Fin 1)) = if p.val / 16 ≤ p.val % 16 then 1#1 else 0#1 := by
  decide +kernel

/-- The row of one feature column of a block, as a function of the position. -/
def feat (x : Vec Ideal S32x16x256 .f32) (k : Fin 32) (d : Fin 256) (i : ℕ) : EReal := if h : i < 16 then x (ix3 k ⟨i, h⟩ d) else ⊥

/-- The table before the maxima: the feature of the row on and above the diagonal, the least extended real below it. -/
theorem start_apply (x : Vec Ideal S32x16x256 .f32) (k : Fin 32) (p : Fin 256) (d : Fin 256) :
    k0_pay5 x (ix3 k p d) = if p.val / 16 ≤ p.val % 16 then feat x k d (p.val / 16) else ⊥ := by
  have hn : (Named.named κ "neg" 0xFF62#16 : Ideal .bf16) = ⊥ := IdealRules.named_const.ideal_named_scalar _ _ _ _ rfl
  have h16 : p.val / 16 < 16 := by omega
  pointwise [k0_pay5]
  rw [hn, mask_apply, feat, dif_pos h16]
  by_cases h : p.val / 16 ≤ p.val % 16
  · rw [if_pos h, if_pos h]
    rfl
  · rw [if_neg h, if_neg h]
    rfl

/-- Each row of 16 positions is a slice of the 256 positions. -/
theorem slices_row (i : ℕ) (h : i < 16) : S32x256x256.Slices ![0, 16 * i, 0] S32x16x256 := by
  refine ⟨rfl, fun a => ?_⟩
  match a with
  | ⟨0, _⟩ => exact Nat.le_refl 32
  | ⟨1, _⟩ => show 16 * i + 16 ≤ 256; omega
  | ⟨2, _⟩ => exact Nat.le_refl 256

/-- Row `i` of a table of 16 rows of 16 positions. -/
def rowAt (C : FVec Ideal S32x256x256 .bf16) (i : ℕ) (h : i < 16) : FVec Ideal S32x16x256 .bf16 :=
  extractStridedSlice S32x16x256 ![0, 16 * i, 0] C (slices_row i h)

/-- Row `i` at column `j` is the table at position `16 i + j`. -/
theorem rowAt_apply (C : FVec Ideal S32x256x256 .bf16) (i : ℕ) (h : i < 16) (k : Fin 32) (j : Fin 16) (d : Fin 256) :
    rowAt C i h (ix3 k j d) = C (ix3 k (⟨16 * i + j.val, by omega⟩ : Fin 256) d) := by
  refine extractStridedSlice_apply _ _ _ _ _ fun a => ?_
  match a with
  | ⟨0, _⟩ => exact (Nat.zero_add _).symm
  | ⟨1, _⟩ => rfl
  | ⟨2, _⟩ => exact (Nat.zero_add _).symm

/-- The running maxima over the rows, from the last row upwards: after `n` steps the maximum of rows `15 - n` to `15`. -/
def rows (C : FVec Ideal S32x256x256 .bf16) : ℕ → FVec Ideal S32x16x256 .bf16
  | 0 => rowAt C 15 (by omega)
  | n + 1 => maximumf (rowAt C (14 - n) (by omega)) (rows C n)

/-- The running maxima over the rows of the starting table are the maxima over the windows. -/
theorem rows_apply (x : Vec Ideal S32x16x256 .f32) (k : Fin 32) (j : Fin 16) (d : Fin 256) (n : ℕ) (hn : n ≤ 15) :
    rows (k0_pay5 x) n (ix3 k j d) = upto (feat x k d) (15 - n) j.val := by
  have hrow : ∀ (i : ℕ) (h : i < 16), rowAt (k0_pay5 x) i h (ix3 k j d) = if i ≤ j.val then feat x k d i else ⊥ := fun i h => by
    rw [rowAt_apply, start_apply]
    have h1 : (16 * i + j.val) / 16 = i := by omega
    have h2 : (16 * i + j.val) % 16 = j.val := by omega
    simp only [h1, h2]
  induction n with
  | zero =>
    rw [rows, hrow, upto_last _ _ _ (by omega)]
  | succ n ih =>
    have e : 15 - (n + 1) = 14 - n := by omega
    have e' : 15 - n = (14 - n) + 1 := by omega
    rw [rows, e, ← upto_step, ← e', ← ih (by omega), ← hrow _ (by omega)]
    rfl

/-- Sixteen blocks of sixteen positions fill the 256 positions. -/
theorem concatenates_rows (f : Fin 16 → FVec Ideal S32x16x256 .bf16) :
    Shape.Concatenates ((List.ofFn fun n : Fin 16 => (⟨S32x16x256, f n⟩ : (s : Shape) × (s.Idx → Ideal .bf16))).map (·.1)) S32x256x256 1 := by
  rw [List.map_ofFn]
  exact (by decide : Shape.Concatenates (List.ofFn fun _ : Fin 16 => S32x16x256) S32x256x256 1)

/-- Sixteen pieces of sixteen positions laid end to end, read at a position. -/
theorem concat_apply (f : Fin 16 → FVec Ideal S32x16x256 .bf16)
    (h : Shape.Concatenates ((List.ofFn fun n : Fin 16 => (⟨S32x16x256, f n⟩ : (s : Shape) × (s.Idx → Ideal .bf16))).map (·.1)) S32x256x256 1)
    (k : Fin 32) (p : Fin 256) (d : Fin 256) :
    concatenate S32x256x256 1 (List.ofFn fun n : Fin 16 => (⟨S32x16x256, f n⟩ : (s : Shape) × (s.Idx → Ideal .bf16))) h (ix3 k p d)
      = f ⟨p.val / 16, by omega⟩ (ix3 k (⟨p.val % 16, by omega⟩ : Fin 16) d) := by
  refine concatenate_ofFn_apply 1 f h rfl 16 rfl _ _ rfl _ rfl fun b hb => ?_
  match b with
  | ⟨0, _⟩ => rfl
  | ⟨1, _⟩ => exact absurd rfl hb
  | ⟨2, _⟩ => rfl

/-- The table the products read: the rows of running maxima laid end to end, zero below the diagonal. -/
theorem table_eq (x : Vec Ideal S32x16x256 .f32) :
    k0_pay10 k0_pay4 (k0_pay5 x) (k0_pay6 x) (k0_pay7 x) (k0_pay8 x) (k0_pay9 x)
      = select (broadcastTo S32x256x256 (shapeCast S1x256x1 k0_pay4 shapeCasts_S1x256x1_S1x256x1) broadcasts_S1x256x1_S32x256x256)
          (concatenate S32x256x256 1 (List.ofFn fun n : Fin 16 => (⟨S32x16x256, rows (k0_pay5 x) (15 - n.val)⟩ : (s : Shape) × (s.Idx → Ideal .bf16)))
            (concatenates_rows fun n => rows (k0_pay5 x) (15 - n.val)))
          (broadcast S32x256x256 (Scalar.ofBits .bf16 0x0000#16)) := rfl

/-- The table the products read, at an index: the window's maximum on and above the diagonal, zero below it. -/
theorem table_apply (x : Vec Ideal S32x16x256 .f32) (k : Fin 32) (p : Fin 256) (d : Fin 256) :
    k0_pay10 k0_pay4 (k0_pay5 x) (k0_pay6 x) (k0_pay7 x) (k0_pay8 x) (k0_pay9 x) (ix3 k p d)
      = cell (feat x k d) (p.val / 16) (p.val % 16) := by
  have hc : concatenate S32x256x256 1 (List.ofFn fun n : Fin 16 => (⟨S32x16x256, rows (k0_pay5 x) (15 - n.val)⟩ : (s : Shape) × (s.Idx → Ideal .bf16)))
      (concatenates_rows fun n => rows (k0_pay5 x) (15 - n.val)) (ix3 k p d) = upto (feat x k d) (p.val / 16) (p.val % 16) := by
    rw [concat_apply (fun n => rows (k0_pay5 x) (15 - n.val)), rows_apply _ _ _ _ _ (by omega), show 15 - (15 - p.val / 16) = p.val / 16 by omega]
  rw [table_eq]
  generalize concatenate S32x256x256 1 _ _ = v at hc ⊢
  pointwise
  rw [hc, mask_apply]
  unfold cell upto
  by_cases h : p.val / 16 ≤ p.val % 16
  · rw [if_pos h, if_pos h, if_pos h]
    rfl
  · rw [if_neg h, if_neg h, if_neg h]
    rfl

end Cert.KernelTable

end
-- ==== Proof.KernelBlock.lean ====
/- What one block of the kernel's result holds: at batch row `k` of the block, position `p` and output feature `e`, the product of the table's row
   with the weights' row, plus the bias. -/
module

public import proofs.«01_k».proof.Proof.Gen.KernelIdeal.Frame
public import proofs.«01_k».proof.Proof.KernelTable

@[expose] public section

set_option maxRecDepth 16384

noncomputable section

namespace Cert.KernelBlock

open Idealize.ShloMosaic Idealize.ShloMosaic.TcCoe Idealize.SL.Sem Cert.KernelIdeal Cert.KernelIdeal.Gen Cert.WindowMax Cert.KernelTable

/-- Each batch row is a slice of the block's table. -/
theorem slices_batch (n : ℕ) (h : n < 32) : S32x256x256.Slices ![n, 0, 0] S1x256x256 := by
  refine ⟨rfl, fun a => ?_⟩
  match a with
  | ⟨0, _⟩ => show n + 1 ≤ 32; omega
  | ⟨1, _⟩ => exact Nat.le_refl 256
  | ⟨2, _⟩ => exact Nat.le_refl 256

/-- What the kernel stores for batch row `n` of its block: the table's slab times the weights, plus the bias. -/
def tile (T : FVec Ideal S32x256x256 .bf16) (W : FVec Ideal S256x256 .bf16) (b : FVec Ideal S1x256 .f32) (n : ℕ) (h : n < 32) : FVec Ideal S1x256x256 .f32 :=
  shapeCast S1x256x256
    (addf (matmul dot_S256x256_S256x256_S256x256_1_1_0_0_n_n none
        (shapeCast S256x256 (extractStridedSlice S1x256x256 ![n, 0, 0] T (slices_batch n h)) shapeCasts_S1x256x256_S256x256) W
        (constant S256x256 .f32 0x00000000#32))
      (broadcastTo S256x256 b broadcasts_S1x256_S256x256))
    shapeCasts_S256x256_S1x256x256

/-- What is stored for a batch row, at an index. -/
theorem tile_apply (T : FVec Ideal S32x256x256 .bf16) (W : FVec Ideal S256x256 .bf16) (b : FVec Ideal S1x256 .f32) (n : ℕ) (h : n < 32) (x : S1x256x256.Idx)
    (y : S32x256x256.Idx) (h0 : (y 0).val = n + (x 0).val) (h1 : (y 1).val = (x 1).val) (h2 : (y 2).val = (x 2).val) :
    tile T W b n h x = (∑ d : Fin 256, T (ix3 (y 0 : Fin 32) (y 1 : Fin 256) d) * W (ix2 (y 2 : Fin 256) d)) + b (ix2 (0 : Fin 1) (y 2 : Fin 256)) := by
  obtain rfl : y = ix3 (⟨n, h⟩ : Fin 32) (x 1 : Fin 256) (x 2 : Fin 256) := by
    refine (eq_ix3 y).trans ?_
    have hx : (x 0).val < 1 := (x 0).isLt
    have e0 : (y 0 : Fin 32) = ⟨n, h⟩ := Fin.ext (show (y 0).val = n by omega)
    exact congr (congr (congrArg ix3 e0) (Fin.ext h1 : (y 1 : Fin 256) = x 1)) (Fin.ext h2 : (y 2 : Fin 256) = x 2)
  pointwise [tile]

/-- Loading a whole block gives the block. -/
theorem ld_x (x0 : Vec Ideal S32x16x256 .f32) : View.ld x0 r0_0 = x0 :=
  View.ld_unit_zero (funext fun a => by fin_cases a <;> rfl) _ x0

/-- The load of the weights is their whole block. -/
theorem ld_w (x1 : Vec Ideal S256x256 .f32) : View.ld x1 r0_1 = x1 :=
  View.ld_unit_zero (funext fun a => by fin_cases a <;> rfl) _ x1

/-- The load of the bias is its whole block. -/
theorem ld_b (x2 : Vec Ideal S1x256 .f32) : View.ld x2 r0_2 = x2 :=
  View.ld_unit_zero (funext fun a => by fin_cases a <;> rfl) _ x2

/-- The three tensors every batch row's product reads: the table of window maxima, the weights and the bias. -/
theorem shared_table (x0 : Vec Ideal S32x16x256 .f32) (x1 : Vec Ideal S256x256 .f32) (x2 : Vec Ideal S1x256 .f32) (k : Fin 32) (p d : Fin 256) :
    k0_pay55 x0 x1 x2 (ix3 k p d) = cell (feat x0 k d) (p.val / 16) (p.val % 16) := by
  unfold k0_pay55 k0_pay49 k0_pay50 k0_pay51 k0_pay52 k0_pay53 k0_pay54
  rw [ld_x]
  exact table_apply x0 k p d

/-- The weights that every product of the block uses are the block's. -/
theorem shared_weights (x0 : Vec Ideal S32x16x256 .f32) (x1 : Vec Ideal S256x256 .f32) (x2 : Vec Ideal S1x256 .f32) : k0_pay56 x0 x1 x2 = x1 := by
  unfold k0_pay56
  rw [ld_w]
  rfl

/-- The bias that every product of the block adds, at an output feature. -/
theorem shared_bias (x0 : Vec Ideal S32x16x256 .f32) (x1 : Vec Ideal S256x256 .f32) (x2 : Vec Ideal S1x256 .f32) (e : Fin 256) :
    k0_pay57 x0 x1 x2 (ix2 0 e) = x2 (ix2 0 e) := by
  unfold k0_pay57
  rw [ld_b]
  pointwise [k0_pay12]

/-- What is stored for batch row `n`, from the blocks of the operands. -/
theorem tile_shared (x0 : Vec Ideal S32x16x256 .f32) (x1 : Vec Ideal S256x256 .f32) (x2 : Vec Ideal S1x256 .f32) (y : S32x256x256.Idx)
    (n : ℕ) (h : n < 32) (x : S1x256x256.Idx) (h0 : (y 0).val = n + (x 0).val) (h1 : (y 1).val = (x 1).val) (h2 : (y 2).val = (x 2).val) :
    tile (k0_pay55 x0 x1 x2) (k0_pay56 x0 x1 x2) (k0_pay57 x0 x1 x2) n h x
      = (∑ d : Fin 256, cell (feat x0 (y 0 : Fin 32) d) ((y 1).val / 16) ((y 1).val % 16) * x1 (ix2 (y 2 : Fin 256) d)) + x2 (ix2 (0 : Fin 1) (y 2 : Fin 256)) := by
  refine (tile_apply _ _ _ n h x y h0 h1 h2).trans (congrArg₂ (fun u v : EReal => u + v) (Finset.sum_congr rfl fun d _ => ?_) (shared_bias x0 x1 x2 (y 2)))
  exact congrArg₂ (fun u v : EReal => u * v) (shared_table x0 x1 x2 (y 0) (y 1) d) (congrFun (shared_weights x0 x1 x2) (ix2 (y 2 : Fin 256) d))

/-- A block of the result, at an index, from the blocks of the operands. -/
theorem out_apply (x0 : Vec Ideal S32x16x256 .f32) (x1 : Vec Ideal S256x256 .f32) (x2 : Vec Ideal S1x256 .f32) (y : S32x256x256.Idx) :
    out0_3 x0 x1 x2 y = (∑ d : Fin 256, cell (feat x0 (y 0 : Fin 32) d) ((y 1).val / 16) ((y 1).val % 16) * x1 (ix2 (y 2 : Fin 256) d)) + x2 (ix2 (0 : Fin 1) (y 2 : Fin 256)) := by
  canon_tiles x h
  all_goals first
    | exact tile_shared x0 x1 x2 y _ (by omega) x h0 h1 h2
    | exact tile_shared x0 x1 x2 y 0 (by omega) x (h0.trans (Nat.zero_add _).symm) h1 h2

end Cert.KernelBlock

end
-- ==== Proof.KernelArray.lean ====
/- What the kernel's result array holds after every block is written, and what the program returns: the array cut in rows and columns of the
   table and with the output features moved in front. -/
module

public import proofs.«01_k».proof.Proof.KernelBlock
public import Idealize.ShloMosaic.Lib.Claim

@[expose] public section

set_option maxRecDepth 16384

noncomputable section

namespace Cert.KernelArray

open Idealize.ShloMosaic Idealize.ShloMosaic.TcCoe Idealize.SL.Sem Cert.KernelIdeal Cert.KernelIdeal.Gen Cert.WindowMax Cert.KernelTable Cert.KernelBlock
open Idealize.ShloMosaic.Pipeline (Dat)

/-- One feature's row of the input, as a function of the position. -/
def row (X : FVec Ideal S512x256x16 .f32) (b : Fin 512) (d : Fin 256) (i : ℕ) : EReal := if h : i < 16 then X (ix3 b d ⟨i, h⟩) else ⊥

/-- The projected table at batch row `b`, row `i`, column `j` and output feature `e`. -/
def proj (X : FVec Ideal S512x256x16 .f32) (W : FVec Ideal S256x256 .f32) (B : FVec Ideal S256 .f32) (b : Fin 512) (i j : ℕ) (e : Fin 256) : EReal :=
  (∑ d : Fin 256, cell (row X b d) i j * W (ix2 e d)) + B (ix1 e)

/-- The array the blocks fill. -/
def arr (X : FVec Ideal S512x256x16 .f32) (W : FVec Ideal S256x256 .f32) (B : FVec Ideal S256 .f32) : FVec Ideal S512x256x256 .f32 :=
  fun y => proj X W B (y 0 : Fin 512) ((y 1).val / 16) ((y 1).val % 16) (y 2 : Fin 256)

/-- Which block of each array a grid point handles. -/
theorem idx : ∀ t : Fin cfg0.N, win0_0.index t = ![t.val, 0, 0] ∧ win0_1.index t = ![0, 0] ∧ win0_2.index t = ![0, 0] ∧ win0_3.index t = ![t.val, 0, 0] :=
  (by decide +kernel : ∀ t : Fin grid0.N, _)

variable (m : (ℓ : Loc nD τ sig) → Buf (Elt Ideal) ℓ)

/-- The kernel's first operand: the input with its last two axes exchanged. -/
theorem entry_x (c : Dev nD) : V m c main_call0_v0 = transpose S512x16x256 [0, 2, 1] (m ((c : Thread nD τ).loc main_arg0)) transposes_S512x256x16_S512x16x256_0_2_1 := by
  entry_read
  rfl

/-- The kernel's third operand: the bias as one row. -/
theorem entry_b (c : Dev nD) : V m c main_call0_v1 = shapeCast S1x256 (m ((c : Thread nD τ).loc main_arg2)) shapeCasts_S256_S1x256 := by
  entry_read
  rfl

/-- A block of the transposed input, at an index. -/
theorem block_x (c : Dev nD) (t : Fin cfg0.N) (k : Fin 32) (i : Fin 16) (d : Fin 256) (b : Fin 512) (hb : b.val = t.val * 32 + k.val) :
    iblk m c 0 t (ix3 k i d) = m ((c : Thread nD τ).loc main_arg0) (ix3 b d i) := by
  show V m c main_call0_v0 (((cfg0.win 0).blk t).view.emb (ix3 k i d)) = _
  rw [entry_x]
  pointwise
  blk_point [idx t]

/-- Every block reads the weights whole. -/
theorem block_w (c : Dev nD) (t : Fin cfg0.N) (e d : Fin 256) :
    iblk m c 1 t (ix2 e d) = m ((c : Thread nD τ).loc main_arg1) (ix2 e d) := by
  show V m c main_arg1 (((cfg0.win 1).blk t).view.emb (ix2 e d)) = _
  rw [V_main_arg1]
  blk_point [idx t]

/-- Every block reads the bias whole. -/
theorem block_b (c : Dev nD) (t : Fin cfg0.N) (e : Fin 256) :
    iblk m c 2 t (ix2 (0 : Fin 1) e) = m ((c : Thread nD τ).loc main_arg2) (ix1 e) := by
  show V m c main_call0_v1 (((cfg0.win 2).blk t).view.emb (ix2 (0 : Fin 1) e)) = _
  rw [entry_b]
  pointwise
  blk_point [idx t]

/-- One block of the result is that block of the array. -/
theorem point (c : Dev nD) (t : Fin cfg0.N) (y : S32x256x256.Idx) :
    out0_3 (iblk m c 0 t) (iblk m c 1 t) (iblk m c 2 t) y
      = arr (m ((c : Thread nD τ).loc main_arg0)) (m ((c : Thread nD τ).loc main_arg1)) (m ((c : Thread nD τ).loc main_arg2)) ((win0_3.blk t).view.emb y) := by
  have hb : t.val * 32 + (y 0).val < 512 := by
    have ht : t.val < 16 := lt_of_lt_of_eq t.isLt N_0
    have hy : (y 0).val < 32 := (y 0).isLt
    omega
  have he : (win0_3.blk t).view.emb y = ix3 (⟨t.val * 32 + (y 0).val, hb⟩ : Fin 512) (y 1 : Fin 256) (y 2 : Fin 256) := by
    blk_point [idx t]
  rw [he, out_apply]
  refine congrArg₂ (fun u v : EReal => u + v) (Finset.sum_congr rfl fun d _ => congrArg₂ (fun u v : EReal => u * v) ?_ (block_w m c t _ d)) (block_b m c t _)
  refine congrArg (fun f => cell f _ _) (funext fun i => ?_)
  unfold feat row
  split
  · exact block_x m c t _ _ d _ rfl
  · rfl

/-- The result array after every grid point. -/
theorem final (c : Dev nD) : (dats m 0 c).arrAt 3 (cfgs 0).N
    = arr (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

/-- What the program returns: the projected table with the output features in front of the table's rows and columns. -/
def res (X : FVec Ideal S512x256x16 .f32) (W : FVec Ideal S256x256 .f32) (B : FVec Ideal S256 .f32) : FVec Ideal S512x256x16x16 .f32 :=
  fun y => proj X W B (y 0 : Fin 512) (y 2).val (y 3).val (y 1 : Fin 256)

/-- The lines after the blocks: the array's positions cut in rows and columns, then the features moved in front. -/
theorem tail_eq (X : FVec Ideal S512x256x16 .f32) (W : FVec Ideal S256x256 .f32) (B : FVec Ideal S256 .f32) :
    transpose S512x256x16x16 [0, 3, 1, 2] (shapeCast S512x16x16x256 (arr X W B) shapeCasts_S512x256x256_S512x16x16x256) transposes_S512x16x16x256_S512x256x16x16_0_3_1_2
      = res X W B := by
  funext y
  have h3 : (y 3).val < 16 := (y 3).isLt
  have e1 : ((y 2).val * 16 + (y 3).val) / 16 = (y 2).val := by omega
  have e2 : ((y 2).val * 16 + (y 3).val) % 16 = (y 3).val := by omega
  pointwise [arr, res]
  rw [e1, e2]

/-- The program's result, from the arguments. -/
theorem result_eq (c : Dev nD) : Pipeline.afterTail₀ cfgs (dats m) 0 (V0 m) [hostOps1] c main_v0
    = res (m ((c : Thread nD τ).loc main_arg0)) (m ((c : Thread nD τ).loc main_arg1)) (m ((c : Thread nD τ).loc main_arg2)) := by
  rw [← tail_eq, ← final m c]
  unfold Pipeline.afterTail₀
  have h := Pipeline.withArrays_arr (cfgs 0).spec (by decide) c (V0 m c) (fun w => (dats m 0 c).arrAt w (cfgs 0).N) 3
  generalize Pipeline.withArrays (cfgs 0).spec c (V0 m c) (fun w => (dats m 0 c).arrAt w (cfgs 0).N) = V' at h ⊢
  rw [← h]
  rfl

/-- The program's run: it ends with the result and with its arguments unchanged. -/
theorem run (g : Dev nD → PrngReg) : θ_run defs (onTc (τ := τ) (main (F := Ideal))) ⟨m, fun _ => 0, g⟩ fun r => ∀ c : Dev nD,
      r.2.mem ((c.tc : Thread nD τ).loc main_v0)
        = res (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v0 (Pipeline.mem_restRefs_of main_v0 (by decide) (by decide))).trans (result_eq m c), h.2 c⟩)
    (θ_run_and (run_main m g) (frame_of m g (dats m) (A_eq m) (run_main m g)))

end Cert.KernelArray

end
-- ==== Proof.ScatterDiagonal.lean ====
/- A scatter that writes one diagonal of every square table: update `k` of a table goes to the cell whose row and column the index array gives
   at `k`. -/
module

public import Idealize.ShloMosaic.Lib.Routing.OpsPair
public import Idealize.ShloMosaic.Lib.Routing.OpsSet
public import Idealize.ShloMosaic.Lib.Pointwise

@[expose] public section

noncomputable section

namespace Cert.ScatterDiagonal

open Idealize.ShloMosaic Idealize.ShloMosaic.Routing

/-- Tables of 16 rows and columns, one for every batch row and feature. -/
abbrev Tables : Shape := ⟨4, ![512, 256, 16, 16]⟩
/-- `L` pairs of row and column. -/
abbrev Pairs (L : ℕ) : Shape := ⟨2, ![L, 2]⟩
/-- `L` values for every batch row and feature. -/
abbrev Values (L : ℕ) : Shape := ⟨3, ![512, 256, L]⟩

/-- The scatter's axes: the updates' first two axes are the tables' first two, the pairs name the last two. -/
structure Diagonal {L : ℕ} (d : ScatterDims Tables (Pairs L) (Values L)) : Prop where
  window : d.updateWindowDims = [0, 1]
  inserted : d.insertedWindowDims = [2, 3]
  named : d.scatterDimsToOperandDims = [2, 3]
  vector : d.indexVectorDim = 1

variable {L : ℕ} {d : ScatterDims Tables (Pairs L) (Values L)}

/-- Where an update lands: its own batch row and feature, at the row and column its pair names. -/
theorem lands (hd : Diagonal d) (idx : IVec (Pairs L) 32) (b : Fin 512) (e : Fin 256) (k : Fin L) (b' : Fin 512) (e' : Fin 256) (i j : Fin 16) :
    d.resultIdx? (ix3 b e k) idx = some (ix4 b' e' i j)
      ↔ b = b' ∧ e = e' ∧ (idx (ix2 k (0 : Fin 2))).toInt = i.val ∧ (idx (ix2 k (1 : Fin 2))).toInt = j.val := by
  obtain ⟨uw, iw, sd, iv, wf⟩ := d
  obtain ⟨h1, h2, h3, h4⟩ := hd
  dsimp only at h1 h2 h3 h4
  subst h1 h2 h3 h4
  rw [resultIdx?_eq_some]
  have hw0 : ScatterDims.window (⟨[0, 1], [2, 3], [2, 3], 1, wf⟩ : ScatterDims Tables (Pairs L) (Values L)) (ix3 b e k) 0 = b.val := rfl
  have hw1 : ScatterDims.window (⟨[0, 1], [2, 3], [2, 3], 1, wf⟩ : ScatterDims Tables (Pairs L) (Values L)) (ix3 b e k) 1 = e.val := rfl
  have hw2 : ScatterDims.window (⟨[0, 1], [2, 3], [2, 3], 1, wf⟩ : ScatterDims Tables (Pairs L) (Values L)) (ix3 b e k) 2 = 0 := rfl
  have hw3 : ScatterDims.window (⟨[0, 1], [2, 3], [2, 3], 1, wf⟩ : ScatterDims Tables (Pairs L) (Values L)) (ix3 b e k) 3 = 0 := rfl
  have hs0 : ScatterDims.start (⟨[0, 1], [2, 3], [2, 3], 1, wf⟩ : ScatterDims Tables (Pairs L) (Values L)) (ix3 b e k) idx 0 = 0 := rfl
  have hs1 : ScatterDims.start (⟨[0, 1], [2, 3], [2, 3], 1, wf⟩ : ScatterDims Tables (Pairs L) (Values L)) (ix3 b e k) idx 1 = 0 := rfl
  have hs2 : ScatterDims.start (⟨[0, 1], [2, 3], [2, 3], 1, wf⟩ : ScatterDims Tables (Pairs L) (Values L)) (ix3 b e k) idx 2 = (idx (ix2 k (0 : Fin 2))).toInt :=
    congrArg (fun q => (idx q).toInt) (funext fun a => by match a with | ⟨0, _⟩ => rfl | ⟨1, _⟩ => rfl)
  have hs3 : ScatterDims.start (⟨[0, 1], [2, 3], [2, 3], 1, wf⟩ : ScatterDims Tables (Pairs L) (Values L)) (ix3 b e k) idx 3 = (idx (ix2 k (1 : Fin 2))).toInt :=
    congrArg (fun q => (idx q).toInt) (funext fun a => by match a with | ⟨0, _⟩ => rfl | ⟨1, _⟩ => rfl)
  constructor
  · intro h
    have g0 := h 0; have g1 := h 1; have g2 := h 2; have g3 := h 3
    rw [hw0, hs0] at g0
    rw [hw1, hs1] at g1
    rw [hw2, hs2] at g2
    rw [hw3, hs3] at g3
    refine ⟨Fin.ext ?_, Fin.ext ?_, ?_, ?_⟩
    · have : ((0 : ℤ) + b.val) = b'.val := g0
      omega
    · have : ((0 : ℤ) + e.val) = e'.val := g1
      omega
    · have : (idx (ix2 k (0 : Fin 2))).toInt + ((0 : ℕ) : ℤ) = i.val := g2
      omega
    · have : (idx (ix2 k (1 : Fin 2))).toInt + ((0 : ℕ) : ℤ) = j.val := g3
      omega
  · rintro ⟨rfl, rfl, h2, h3⟩ a
    match a with
    | ⟨0, _⟩ => exact (congrArg₂ (fun (u : ℤ) (v : ℕ) => u + v) hs0 hw0).trans (Int.zero_add _)
    | ⟨1, _⟩ => exact (congrArg₂ (fun (u : ℤ) (v : ℕ) => u + v) hs1 hw1).trans (Int.zero_add _)
    | ⟨2, _⟩ => exact (congrArg₂ (fun (u : ℤ) (v : ℕ) => u + v) hs2 hw2).trans ((Int.add_zero _).trans h2)
    | ⟨3, _⟩ => exact (congrArg₂ (fun (u : ℤ) (v : ℕ) => u + v) hs3 hw3).trans ((Int.add_zero _).trans h3)

/-- Writing the diagonal that starts at column `o`: cell `(i, i + o)` gets update `i`, every other cell stays. -/
theorem scatter_diagonal (hd : Diagonal d) (idx : IVec (Pairs L) 32) (o : ℕ) (hL : L + o = 16)
    (hrow : ∀ k : Fin L, (idx (ix2 k (0 : Fin 2))).toInt = k.val) (hcol : ∀ k : Fin L, (idx (ix2 k (1 : Fin 2))).toInt = ((o + k.val : ℕ) : ℤ))
    (M : FVec Ideal Tables .f32) (u : FVec Ideal (Values L) .f32) (b : Fin 512) (e : Fin 256) (i j : Fin 16) :
    Host.scatter d (fun _ v => v) M idx u (ix4 b e i j)
      = if h : j.val = o + i.val then u (ix3 b e (⟨i.val, by omega⟩ : Fin L)) else M (ix4 b e i j) := by
  by_cases h : j.val = o + i.val
  · rw [dif_pos h]
    refine scatter_set_hit d M idx u _ _ (fun q hq => ?_) (ix3 b e (⟨i.val, by omega⟩ : Fin L)) ?_
    · obtain ⟨b', e', k, rfl⟩ : ∃ (b' : Fin 512) (e' : Fin 256) (k : Fin L), q = ix3 b' e' k :=
        ⟨q 0, q 1, q 2, funext fun a => by match a with | ⟨0, _⟩ => rfl | ⟨1, _⟩ => rfl | ⟨2, _⟩ => rfl⟩
      obtain ⟨rfl, rfl, hr, _⟩ := (lands hd idx _ _ _ _ _ _ _).1 hq
      rw [hrow] at hr
      exact congrArg (fun k : Fin L => u (ix3 b' e' k)) (Fin.ext (Int.ofNat.inj hr))
    · refine (lands hd idx _ _ _ _ _ _ _).2 ⟨rfl, rfl, hrow _, ?_⟩
      rw [hcol, h]
  · rw [dif_neg h]
    refine scatter_set_miss d M idx u _ fun q hq => h ?_
    obtain ⟨b', e', k, rfl⟩ : ∃ (b' : Fin 512) (e' : Fin 256) (k : Fin L), q = ix3 b' e' k :=
      ⟨q 0, q 1, q 2, funext fun a => by match a with | ⟨0, _⟩ => rfl | ⟨1, _⟩ => rfl | ⟨2, _⟩ => rfl⟩
    obtain ⟨_, _, hr, hc⟩ := (lands hd idx _ _ _ _ _ _ _).1 hq
    rw [hrow] at hr
    rw [hcol] at hc
    omega

end Cert.ScatterDiagonal

end
-- ==== Proof.ReferenceStage.lean ====
/- The reference's building steps, each stated once for every length `L` and offset `o`: one longer windows from the windows before, the array of
   pairs that names a diagonal, and the table after one more diagonal is written. -/
module

public import proofs.«01_k».proof.Proof.KernelArray
public import proofs.«01_k».proof.Proof.ScatterDiagonal
public import Idealize.ShloMosaic.Lib.StableHlo.Predicate

@[expose] public section

set_option maxRecDepth 16384

noncomputable section

namespace Cert.ReferenceStage

open Idealize.ShloMosaic Idealize.ShloMosaic.TcCoe Idealize.ShloMosaic.Routing Cert.WindowMax Cert.ScatterDiagonal
open Cert.KernelArray (row)

/-- The shape of one number. -/
abbrev One : Shape := ⟨0, ![]⟩
/-- `L` numbers in a row. -/
abbrev Line (L : ℕ) : Shape := ⟨1, ![L]⟩
/-- `L` numbers in a column. -/
abbrev Column (L : ℕ) : Shape := ⟨2, ![L, 1]⟩

/-- The input rows. -/
abbrev Input : Type := FVec Ideal ⟨3, ![512, 256, 16]⟩ .f32

/-- The array holds the maxima of the windows of `o + 1` elements. -/
def Window (X : Input) (o L : ℕ) (H : FVec Ideal (Values L) .f32) : Prop :=
  ∀ (b : Fin 512) (e : Fin 256) (k : Fin L), H (ix3 b e k) = wmax (row X b e) k.val o

/-- The input itself holds the windows of one element. -/
theorem window_zero (X : Input) : Window X 0 16 X := fun b e k => by
  rw [wmax_zero, row, dif_pos k.isLt]

/-- The maximum of two neighbouring windows is the window one element longer. -/
theorem window_succ {X : Input} {o L L' : ℕ} {H : FVec Ideal (Values L) .f32} (hL : L = L' + 1) (h0 : (Values L).Slices ![0, 0, 0] (Values L'))
    (h1 : (Values L).Slices ![0, 0, 1] (Values L')) (h : Window X o L H) :
    Window X (o + 1) L' (maximumf (extractStridedSlice (Values L') ![0, 0, 0] H h0) (extractStridedSlice (Values L') ![0, 0, 1] H h1)) := by
  intro b e k
  have e0 : extractStridedSlice (Values L') ![0, 0, 0] H h0 (ix3 b e k) = H (ix3 b e (⟨k.val, by omega⟩ : Fin L)) :=
    extractStridedSlice_apply _ _ _ _ _ fun a => by match a with | ⟨0, _⟩ => exact (Nat.zero_add _).symm | ⟨1, _⟩ => exact (Nat.zero_add _).symm | ⟨2, _⟩ => exact (Nat.zero_add _).symm
  have e1 : extractStridedSlice (Values L') ![0, 0, 1] H h1 (ix3 b e k) = H (ix3 b e (⟨k.val + 1, by omega⟩ : Fin L)) :=
    extractStridedSlice_apply _ _ _ _ _ fun a => by match a with | ⟨0, _⟩ => exact (Nat.zero_add _).symm | ⟨1, _⟩ => exact (Nat.zero_add _).symm | ⟨2, _⟩ => exact Nat.add_comm _ _
  rw [wmax_succ]
  exact congrArg₂ (fun u v : EReal => max u v) (e0.trans (h b e _)) (e1.trans (h b e _))

/-- The line counts up from `o`. -/
def Counts (o L : ℕ) (R : IVec (Line L) 32) : Prop := ∀ k : Fin L, R (ix1 k) = BitVec.ofNat 32 (o + k.val)

/-- The positions count up from zero. -/
theorem counts_iota (L : ℕ) : Counts 0 L (iotaInDim (Line L) 32 0) := fun k => by
  rw [Nat.zero_add]
  rfl

/-- Adding `o` to every position makes the count start at `o`. -/
theorem counts_add {o L : ℕ} (hs : One.BroadcastsInDim (Line L) ![]) :
    Counts o L (addi (broadcastInDim (Line L) ![] hs (constantI One 32 (BitVec.ofNat 32 o))) (iotaInDim (Line L) 32 0)) := fun k => by
  rw [BitVec.ofNat_add]
  rfl

/-- An index with a negative one moved up by 16, as the reference prepares it. -/
def wrap {L : ℕ} (hs : One.BroadcastsInDim (Line L) ![]) (R : IVec (Line L) 32) : IVec (Line L) 32 :=
  select (cmpi .slt R (broadcastInDim (Line L) ![] hs (constantI One 32 0#32))) (addi R (broadcastInDim (Line L) ![] hs (constantI One 32 16#32))) R

/-- Two lines side by side: the rows and the columns. -/
def pairs {L : ℕ} (hb : (Line L).BroadcastsInDim (Column L) ![0]) (hc : Shape.Concatenates [Column L, Column L] (Pairs L) 1) (R C : IVec (Line L) 32) :
    IVec (Pairs L) 32 :=
  concatenate (Pairs L) 1 [⟨Column L, broadcastInDim (Column L) ![0] hb R⟩, ⟨Column L, broadcastInDim (Column L) ![0] hb C⟩] hc

/-- A count of numbers below 32 is not moved. -/
theorem wrap_apply {o L : ℕ} (hL : L + o ≤ 16) (hs : One.BroadcastsInDim (Line L) ![]) {R : IVec (Line L) 32} (h : Counts o L R) (k : Fin L) :
    (wrap hs R (ix1 k)).toInt = ((o + k.val : ℕ) : ℤ) := by
  have hk : o + k.val < 2 ^ 31 := by omega
  have : wrap hs R (ix1 k) = R (ix1 k) := by
    refine wrap_of_lt (R (ix1 k)) _ ?_
    rw [h k, BitVec.toNat_ofNat]
    exact (Nat.mod_le _ _).trans_lt hk
  rw [this, h k]
  exact StableHlo.Predicate.toInt_ofNat_small _ hk

/-- A line stood up as a column. -/
theorem column_apply {L : ℕ} (hb : (Line L).BroadcastsInDim (Column L) ![0]) (R : IVec (Line L) 32) (k : Fin L) :
    broadcastInDim (Column L) ![0] hb R (ix2 k (0 : Fin 1)) = R (ix1 k) := by
  refine broadcastInDim_apply _ _ _ _ _ fun a => ?_
  match a with
  | ⟨0, _⟩ =>
    show k.val = if L = 1 then 0 else k.val
    split <;> omega

/-- The first of a pair is the row. -/
theorem pairs_row {L : ℕ} (hb : (Line L).BroadcastsInDim (Column L) ![0]) (hc : Shape.Concatenates [Column L, Column L] (Pairs L) 1)
    (R C : IVec (Line L) 32) (k : Fin L) : pairs hb hc R C (ix2 k (0 : Fin 2)) = R (ix1 k) :=
  (concatenate_pair_apply_left (t := Pairs L) (s₁ := Column L) (s₂ := Column L) (1 : Fin 2) _ _ hc _ rfl (ix2 k (0 : Fin 1))
    fun a => by match a with | ⟨0, _⟩ => rfl | ⟨1, _⟩ => rfl).trans (column_apply hb R k)

/-- The second of a pair is the column. -/
theorem pairs_column {L : ℕ} (hb : (Line L).BroadcastsInDim (Column L) ![0]) (hc : Shape.Concatenates [Column L, Column L] (Pairs L) 1)
    (R C : IVec (Line L) 32) (k : Fin L) : pairs hb hc R C (ix2 k (1 : Fin 2)) = C (ix1 k) :=
  (concatenate_pair_apply_right (t := Pairs L) (s₁ := Column L) (s₂ := Column L) (1 : Fin 2) _ _ hc _ rfl rfl (ix2 k (0 : Fin 1))
    (fun a ha => by match a with | ⟨0, _⟩ => rfl | ⟨1, _⟩ => exact absurd rfl ha) rfl).trans (column_apply hb C k)

/-- The tables after `o` diagonals: windows of up to `o` elements on the diagonals written, zero elsewhere. -/
def Stage (X : Input) (o : ℕ) (M : FVec Ideal Tables .f32) : Prop :=
  ∀ (b : Fin 512) (e : Fin 256) (i j : Fin 16),
    M (ix4 b e i j) = if i.val ≤ j.val ∧ j.val < i.val + o then wmax (row X b e) i.val (j.val - i.val) else 0

/-- No diagonal written: the zero tables. -/
theorem stage_zero (X : Input) (hs : One.BroadcastsInDim Tables ![]) :
    Stage X 0 (broadcastInDim Tables ![] hs (constant One .f32 0x00000000#32)) := fun b e i j => by
  rw [if_neg (by omega)]
  pointwise []

/-- One more diagonal: the windows of `o + 1` elements written at the cells `(k, o + k)`. -/
theorem stage_succ {X : Input} {o L : ℕ} (hL : L + o = 16) {d : ScatterDims Tables (Pairs L) (Values L)} (hd : Diagonal d)
    {hs : One.BroadcastsInDim (Line L) ![]} {hb : (Line L).BroadcastsInDim (Column L) ![0]}
    {hc : Shape.Concatenates [Column L, Column L] (Pairs L) 1} {R C : IVec (Line L) 32} {M : FVec Ideal Tables .f32} {u : FVec Ideal (Values L) .f32}
    (hR : Counts 0 L R) (hC : Counts o L C) (hM : Stage X o M) (hu : Window X o L u) :
    Stage X (o + 1) (Host.scatter d (fun _ v => v) M (pairs hb hc (wrap hs R) (wrap hs C)) u) := by
  intro b e i j
  rw [scatter_diagonal hd _ o hL (fun k => by rw [pairs_row, wrap_apply (by omega) hs hR, Nat.zero_add])
    (fun k => by rw [pairs_column, wrap_apply (by omega) hs hC])]
  by_cases h : j.val = o + i.val
  · rw [dif_pos h, if_pos (by omega), hu, show j.val - i.val = o by omega]
  · rw [dif_neg h, hM]
    exact if_congr (by omega) rfl rfl

/-- All sixteen diagonals written: every cell on or above the diagonal holds its window. -/
theorem stage_all {X : Input} {M : FVec Ideal Tables .f32} (h : Stage X 16 M) (b : Fin 512) (e : Fin 256) (i j : Fin 16) :
    M (ix4 b e i j) = cell (row X b e) i.val j.val := by
  rw [h, cell]
  exact if_congr (by omega) rfl rfl

end Cert.ReferenceStage

end
-- ==== Proof.ReferenceTable.lean ====
/- What the reference's sixteen scatters leave: the table of window maxima. -/
module

public import proofs.«01_k».proof.Proof.ReferenceStage
public import proofs.«01_k».proof.Proof.Gen.ReferenceIdeal.Run

@[expose] public section

set_option maxRecDepth 16384

noncomputable section

namespace Cert.ReferenceTable

open Idealize.ShloMosaic Idealize.ShloMosaic.TcCoe Idealize.SL.Sem Cert.ReferenceIdeal Cert.ReferenceIdeal.Gen Cert.ReferenceIdeal.Value Cert.ReferenceStage Cert.ScatterDiagonal

variable (V : Valuation τ sig (Elt Ideal))

/-- The rows the reference reads. -/
abbrev input : Input := V (Proc.devRef .tc main_arg0)

/-- Windows of two elements. -/
theorem window_1 : Window (input V) 1 15 (res_main_v18 V) := window_succ rfl _ _ (window_zero (input V))

/-- Windows of three elements. -/
theorem window_2 : Window (input V) 2 14 (res_main_v39 V) := window_succ rfl _ _ (window_1 V)
/-- Windows of four elements. -/
theorem window_3 : Window (input V) 3 13 (res_main_v60 V) := window_succ rfl _ _ (window_2 V)
/-- Windows of five elements. -/
theorem window_4 : Window (input V) 4 12 (res_main_v81 V) := window_succ rfl _ _ (window_3 V)
/-- Windows of six elements. -/
theorem window_5 : Window (input V) 5 11 (res_main_v102 V) := window_succ rfl _ _ (window_4 V)
/-- Windows of seven elements. -/
theorem window_6 : Window (input V) 6 10 (res_main_v123 V) := window_succ rfl _ _ (window_5 V)
/-- Windows of eight elements. -/
theorem window_7 : Window (input V) 7 9 (res_main_v144 V) := window_succ rfl _ _ (window_6 V)
/-- Windows of nine elements. -/
theorem window_8 : Window (input V) 8 8 (res_main_v165 V) := window_succ rfl _ _ (window_7 V)
/-- Windows of ten elements. -/
theorem window_9 : Window (input V) 9 7 (res_main_v186 V) := window_succ rfl _ _ (window_8 V)
/-- Windows of eleven elements. -/
theorem window_10 : Window (input V) 10 6 (res_main_v207 V) := window_succ rfl _ _ (window_9 V)
/-- Windows of twelve elements. -/
theorem window_11 : Window (input V) 11 5 (res_main_v228 V) := window_succ rfl _ _ (window_10 V)
/-- Windows of thirteen elements. -/
theorem window_12 : Window (input V) 12 4 (res_main_v249 V) := window_succ rfl _ _ (window_11 V)
/-- Windows of fourteen elements. -/
theorem window_13 : Window (input V) 13 3 (res_main_v270 V) := window_succ rfl _ _ (window_12 V)
/-- Windows of fifteen elements. -/
theorem window_14 : Window (input V) 14 2 (res_main_v291 V) := window_succ rfl _ _ (window_13 V)

/-- One scatter of the reference: the diagonal that starts at column `o`, the rows of its pairs counted from zero. -/
theorem written {X : Input} {L : ℕ} (o : ℕ) {d : ScatterDims Tables (Pairs L) (Values L)} {hs : One.BroadcastsInDim (Line L) ![]}
    {hb : (Line L).BroadcastsInDim (Column L) ![0]} {hc : Shape.Concatenates [Column L, Column L] (Pairs L) 1} {C : IVec (Line L) 32}
    {M : FVec Ideal Tables .f32} {u : FVec Ideal (Values L) .f32} (hC : Counts o L C) (hu : Window X o L u) (hM : Stage X o M)
    (hL : L + o = 16 := by rfl) (hd : Diagonal d := by exact ⟨rfl, rfl, rfl, rfl⟩) :
    Stage X (o + 1) (Host.scatter d (fun _ v => v) M (pairs hb hc (wrap hs (iotaInDim (Line L) 32 0)) (wrap hs C)) u) :=
  stage_succ hL hd (counts_iota L) hC hM hu

/-- The first six diagonals. -/
theorem stage_6 : Stage (input V) 6 (res_main_v120 V) := by
  refine written 5 (counts_add _) (window_5 V) ?_
  refine written 4 (counts_add _) (window_4 V) ?_
  refine written 3 (counts_add _) (window_3 V) ?_
  refine written 2 (counts_add _) (window_2 V) ?_
  refine written 1 (counts_add _) (window_1 V) ?_
  refine written 0 (counts_iota _) (window_zero _) ?_
  exact stage_zero _ _

/-- The first thirteen. -/
theorem stage_13 : Stage (input V) 13 (res_main_v267 V) := by
  refine written 12 (counts_add _) (window_12 V) ?_
  refine written 11 (counts_add _) (window_11 V) ?_
  refine written 10 (counts_add _) (window_10 V) ?_
  refine written 9 (counts_add _) (window_9 V) ?_
  refine written 8 (counts_add _) (window_8 V) ?_
  refine written 7 (counts_add _) (window_7 V) ?_
  refine written 6 (counts_add _) (window_6 V) ?_
  exact stage_6 V

/-- All sixteen: the last three are written on top of the first thirteen. -/
theorem stage_16 : Stage (input V) 16
    (Host.scatter scatter_S512x256x16x16_S1x2_S512x256x1_01_23_23_1 (fun _ b => b)
      (Host.scatter scatter_S512x256x16x16_S2x2_S512x256x2_01_23_23_1 (fun _ b => b)
        (Host.scatter scatter_S512x256x16x16_S3x2_S512x256x3_01_23_23_1 (fun _ b => b) (res_main_v267 V)
          (pairs bcast_S3_S3x1_0 concatenates_S3x1_S3x1_S3x2_d1 (wrap bcast_S_S3 (res_main_v271 V)) (wrap bcast_S_S3 (res_main_v274 V))) (res_main_v270 V))
        (pairs bcast_S2_S2x1_0 concatenates_S2x1_S2x1_S2x2_d1 (wrap bcast_S_S2 (res_main_v292 V)) (wrap bcast_S_S2 (res_main_v295 V))) (res_main_v291 V))
      (pairs bcast_S1_S1x1_0 concatenates_S1x1_S1x1_S1x2_d1 (wrap bcast_S_S1 (res_main_v313 V)) (wrap bcast_S_S1 (res_main_v316 V)))
      (maximumf (extractStridedSlice S512x256x1 ![0, 0, 0] (res_main_v291 V) slices_S512x256x2_S512x256x1_0_0_0)
        (extractStridedSlice S512x256x1 ![0, 0, 1] (res_main_v291 V) slices_S512x256x2_S512x256x1_0_0_1))) := by
  refine written 15 (counts_add _) (window_succ rfl _ _ (window_14 V)) ?_
  refine written 14 (counts_add _) (window_14 V) ?_
  refine written 13 (counts_add _) (window_13 V) ?_
  exact stage_13 V

end Cert.ReferenceTable

end
-- ==== Proof.Equation.lean ====
/- The equation: projecting the reference's finished table gives the array the kernel leaves. -/
module

public import proofs.«01_k».proof.Proof.ReferenceTable

@[expose] public section

set_option maxRecDepth 16384

noncomputable section

namespace Cert.Equation

open Idealize.ShloMosaic Idealize.ShloMosaic.TcCoe Idealize.SL.Sem Cert.ReferenceIdeal Cert.ReferenceIdeal.Gen Cert.ReferenceIdeal.Value Cert.ReferenceStage Cert.ReferenceTable
open Cert.ScatterDiagonal Cert.WindowMax Cert.KernelArray

/-- The reference's projection of a table all of whose diagonals are written: every product has its factors the other way round. -/
theorem projected {X : Input} {M : FVec Ideal Tables .f32} (hM : Stage X 16 M) (W : FVec Ideal S256x256 .f32) (B : FVec Ideal S256 .f32) :
    addf (transpose S512x256x16x16 [1, 0, 2, 3] (Host.dotGeneral dot_S256x256_S512x256x16x16_S256x512x16x16_1_1_0_023_n_n none W M)
        transposes_S256x512x16x16_S512x256x16x16_1_0_2_3)
      (broadcastInDim S512x256x16x16 ![0, 1, 2, 3] bcast_S1x256x1x1_S512x256x16x16_0_1_2_3 (broadcastInDim S1x256x1x1 ![1] bcast_S256_S1x256x1x1_1 B))
      = res X W B := by
  funext y
  obtain ⟨b, e, i, j, rfl⟩ : ∃ (b : Fin 512) (e : Fin 256) (i j : Fin 16), y = ix4 b e i j :=
    ⟨y 0, y 1, y 2, y 3, funext fun a => by match a with | ⟨0, _⟩ => rfl | ⟨1, _⟩ => rfl | ⟨2, _⟩ => rfl | ⟨3, _⟩ => rfl⟩
  have hr : res X W B (ix4 b e i j) = (∑ d : Fin 256, W (ix2 e d) * M (ix4 b d i j)) + B (ix1 e) :=
    congrArg (fun u : EReal => u + B (ix1 e)) (Finset.sum_congr rfl fun d _ => by rw [stage_all hM, mul_comm]; rfl)
  rw [hr]
  pointwise []

end Cert.Equation

end
-- ==== Proof.lean ====
/- The claims about the kernel, its idealization and the reference, put together. Each program ends with its arguments unchanged; the idealization
   differs from the kernel by one named constant; and the idealized kernel and reference leave equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelArray
public import proofs.«01_k».proof.Proof.Equation
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel ends with its arguments unchanged and every counter at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the reference, which uses no counters. -/
theorem frame_referenceIdeal : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The idealization gives the mask's large negative constant its meaning, the least extended real. -/
theorem preserves : Cert.preserves_Kernel_KernelIdeal :=
  IdealRules.named_const.statement Cert.KernelIdeal.κ "neg" .bf16 0xFF62#16 ⊥ rfl

/-- From equal arguments the kernel's result and the reference's are the same array of extended reals. -/
theorem algebraic : Cert.algebraic_KernelIdeal_ReferenceIdeal := by
  pair_intro
  · run_from Cert.KernelArray.run m g
  · run_from Cert.ReferenceIdeal.Value.run m' g'
    exact (Cert.Equation.projected (Cert.ReferenceTable.stage_16 (StableHlo.launchContents m' c)) _ _).trans
      (congrArg (fun X => Cert.KernelArray.res X _ _) (hagree c).1)

/-- All five claims. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
